-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S6x256x5120 : Shape := ⟨3, ![6, 256, 5120]⟩
abbrev S5120 : Shape := ⟨1, ![5120]⟩
abbrev S256 : Shape := ⟨1, ![256]⟩
abbrev S27648x2560 : Shape := ⟨2, ![27648, 2560]⟩
abbrev S27648x5 : Shape := ⟨2, ![27648, 5]⟩
abbrev S_ : Shape := ⟨0, ![]⟩

class Facts : Prop where
  bcast_S_S6x256x5120 : S_.BroadcastsInDim S6x256x5120 (![] : Fin 0 → Fin S6x256x5120.rank)

variable [Facts]

def fn {F : FTy → Type} [FloatOps F] (main_arg0 : FVec F S6x256x5120 .bf16) (main_arg1 : IVec S5120 8) (main_arg2 : IVec S256 32) (main_arg3 : IVec S27648x2560 8) (main_arg4 : FVec F S27648x5 .f32) : IVec S6x256x5120 1 :=
  let main_v0 : FVec F S6x256x5120 .bf16 := Host.absf main_arg0
  let main_cst : FVec F S_ .bf16 := constant S_ .bf16 0x7F80#16
  let main_v1 : FVec F S6x256x5120 .bf16 := broadcastInDim S6x256x5120 ![] bcast_S_S6x256x5120 main_cst
  let main_v2 : IVec S6x256x5120 1 := cmpf .olt main_v0 main_v1
  main_v2
-- ==== Kernel.lean ====
abbrev S6x256x5120 : Shape := ⟨3, ![6, 256, 5120]⟩
abbrev S5120 : Shape := ⟨1, ![5120]⟩
abbrev S256 : Shape := ⟨1, ![256]⟩
abbrev S27648x2560 : Shape := ⟨2, ![27648, 2560]⟩
abbrev S27648x5 : Shape := ⟨2, ![27648, 5]⟩
abbrev S1536x5120 : Shape := ⟨2, ![1536, 5120]⟩
abbrev S1x5120 : Shape := ⟨2, ![1, 5120]⟩
abbrev S256x5120 : Shape := ⟨2, ![256, 5120]⟩
abbrev S256x256 : Shape := ⟨2, ![256, 256]⟩
abbrev S1x256 : Shape := ⟨2, ![1, 256]⟩
abbrev S2x128 : Shape := ⟨2, ![2, 128]⟩
abbrev S1536x27648 : Shape := ⟨2, ![1536, 27648]⟩
abbrev S512x2560 : Shape := ⟨2, ![512, 2560]⟩
abbrev S512x5 : Shape := ⟨2, ![512, 5]⟩
abbrev S1536x512 : Shape := ⟨2, ![1536, 512]⟩
abbrev S512x5120 : Shape := ⟨2, ![512, 5120]⟩
abbrev S1x128 : Shape := ⟨2, ![1, 128]⟩
abbrev S512x128 : Shape := ⟨2, ![512, 128]⟩
abbrev S512x128x1 : Shape := ⟨3, ![512, 128, 1]⟩
abbrev S512x1 : Shape := ⟨2, ![512, 1]⟩
abbrev S6x256x27648 : Shape := ⟨3, ![6, 256, 27648]⟩

abbrev nBuf : Space → Nat
  | .hbm => 13
  | .vmem => 16
  | .smem => 0
  | _ => 0

abbrev bufTy : (tb : Table) → Fin (tcTables nBuf tb) → BufTy
  | .hbm, ⟨0, _⟩ => ⟨S6x256x5120, .bf16⟩
  | .hbm, ⟨1, _⟩ => ⟨S5120, .i8⟩
  | .hbm, ⟨2, _⟩ => ⟨S256, .i32⟩
  | .hbm, ⟨3, _⟩ => ⟨S27648x2560, .i8⟩
  | .hbm, ⟨4, _⟩ => ⟨S27648x5, .f32⟩
  | .hbm, ⟨5, _⟩ => ⟨S1536x5120, .bf16⟩
  | .hbm, ⟨6, _⟩ => ⟨S1x5120, .i8⟩
  | .hbm, ⟨7, _⟩ => ⟨S1536x5120, .bf16⟩
  | .hbm, ⟨8, _⟩ => ⟨S1536x5120, .bf16⟩
  | .hbm, ⟨9, _⟩ => ⟨S2x128, .i32⟩
  | .hbm, ⟨10, _⟩ => ⟨S1536x27648, .bf16⟩
  | .hbm, ⟨11, _⟩ => ⟨S6x256x27648, .bf16⟩
  | .hbm, ⟨12, _⟩ => ⟨S6x256x5120, .bf16⟩
  | .local _ .vmem, ⟨0, _⟩ => ⟨S256x5120, .bf16⟩
  | .local _ .vmem, ⟨1, _⟩ => ⟨S256x5120, .bf16⟩
  | .local _ .vmem, ⟨2, _⟩ => ⟨S1x5120, .i8⟩
  | .local _ .vmem, ⟨3, _⟩ => ⟨S256x5120, .bf16⟩
  | .local _ .vmem, ⟨4, _⟩ => ⟨S256x5120, .bf16⟩
  | .local _ .vmem, ⟨5, _⟩ => ⟨S256x5120, .bf16⟩
  | .local _ .vmem, ⟨6, _⟩ => ⟨S256x5120, .bf16⟩
  | .local _ .vmem, ⟨7, _⟩ => ⟨S1536x5120, .bf16⟩
  | .local _ .vmem, ⟨8, _⟩ => ⟨S2x128, .i32⟩
  | .local _ .vmem, ⟨9, _⟩ => ⟨S512x2560, .i8⟩
  | .local _ .vmem, ⟨10, _⟩ => ⟨S512x2560, .i8⟩
  | .local _ .vmem, ⟨11, _⟩ => ⟨S512x5, .f32⟩
  | .local _ .vmem, ⟨12, _⟩ => ⟨S512x5, .f32⟩
  | .local _ .vmem, ⟨13, _⟩ => ⟨S1536x512, .bf16⟩
  | .local _ .vmem, ⟨14, _⟩ => ⟨S1536x512, .bf16⟩
  | .local _ .vmem, ⟨15, _⟩ => ⟨S512x5120, .bf16⟩
  | _, _ => ⟨S6x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![54], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x5120 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2560 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1536x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S6x256x5120 : Shape := ⟨3, ![6, 256, 5120]⟩
abbrev S5120 : Shape := ⟨1, ![5120]⟩
abbrev S256 : Shape := ⟨1, ![256]⟩
abbrev S27648x2560 : Shape := ⟨2, ![27648, 2560]⟩
abbrev S27648x5 : Shape := ⟨2, ![27648, 5]⟩
abbrev S256x2 : Shape := ⟨2, ![256, 2]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S_ : Shape := ⟨0, ![]⟩
abbrev S5x1024 : Shape := ⟨2, ![5, 1024]⟩
abbrev S6x256x5x1024 : Shape := ⟨4, ![6, 256, 5, 1024]⟩
abbrev S1x1x5x1024 : Shape := ⟨4, ![1, 1, 5, 1024]⟩
abbrev S27648x2560x1 : Shape := ⟨3, ![27648, 2560, 1]⟩
abbrev S27648x2560x2 : Shape := ⟨3, ![27648, 2560, 2]⟩
abbrev S27648x5x512x2 : Shape := ⟨4, ![27648, 5, 512, 2]⟩
abbrev S27648x5x1x1 : Shape := ⟨4, ![27648, 5, 1, 1]⟩
abbrev S6x256x5x512x2 : Shape := ⟨5, ![6, 256, 5, 512, 2]⟩
abbrev S6x256x27648 : Shape := ⟨3, ![6, 256, 27648]⟩

abbrev nBuf : Space → Nat
  | .hbm => 55
  | .vmem => 0
  | .smem => 0
  | _ => 0

abbrev bufTy : (tb : Table) → Fin (tcTables nBuf tb) → BufTy
  | .hbm, ⟨0, _⟩ => ⟨S6x256x5120, .bf16⟩
  | .hbm, ⟨1, _⟩ => ⟨S5120, .i8⟩
  | .hbm, ⟨2, _⟩ => ⟨S256, .i32⟩
  | .hbm, ⟨3, _⟩ => ⟨S27648x2560, .i8⟩
  | .hbm, ⟨4, _⟩ => ⟨S27648x5, .f32⟩
  | .hbm, ⟨5, _⟩ => ⟨S256x2, .bf16⟩
  | .hbm, ⟨6, _⟩ => ⟨S1024, .i32⟩
  | .hbm, ⟨7, _⟩ => ⟨S1024x1, .i32⟩
  | .hbm, ⟨8, _⟩ => ⟨S1024x1024, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .bf16⟩
  | .hbm, ⟨24, _⟩ => ⟨S5120, .i32⟩
  | .hbm, ⟨25, _⟩ => ⟨S5120, .bf16⟩
  | .hbm, ⟨26, _⟩ => ⟨S5x1024, .bf16⟩
  | .hbm, ⟨27, _⟩ => ⟨S6x256x5x1024, .bf16⟩
  | .hbm, ⟨28, _⟩ => ⟨S1x1x5x1024, .bf16⟩
  | .hbm, ⟨29, _⟩ => ⟨S6x256x5x1024, .bf16⟩
  | .hbm, ⟨30, _⟩ => ⟨S6x256x5x1024, .bf16⟩
  | .hbm, ⟨31, _⟩ => ⟨S6x256x5x1024, .f32⟩
  | .hbm, ⟨32, _⟩ => ⟨S_, .f32⟩
  | .hbm, ⟨33, _⟩ => ⟨S6x256x5x1024, .f32⟩
  | .hbm, ⟨34, _⟩ => ⟨S6x256x5x1024, .f32⟩
  | .hbm, ⟨35, _⟩ => ⟨S6x256x5x1024, .bf16⟩
  | .hbm, ⟨36, _⟩ => ⟨S27648x2560, .i32⟩
  | .hbm, ⟨37, _⟩ => ⟨S_, .i32⟩
  | .hbm, ⟨38, _⟩ => ⟨S27648x2560, .i32⟩
  | .hbm, ⟨39, _⟩ => ⟨S27648x2560, .i1⟩
  | .hbm, ⟨40, _⟩ => ⟨S_, .i32⟩
  | .hbm, ⟨41, _⟩ => ⟨S27648x2560, .i32⟩
  | .hbm, ⟨42, _⟩ => ⟨S27648x2560, .i32⟩
  | .hbm, ⟨43, _⟩ => ⟨S27648x2560, .i32⟩
  | .hbm, ⟨44, _⟩ => ⟨S27648x2560x1, .i32⟩
  | .hbm, ⟨45, _⟩ => ⟨S27648x2560x2, .bf16⟩
  | .hbm, ⟨46, _⟩ => ⟨S27648x5x512x2, .bf16⟩
  | .hbm, ⟨47, _⟩ => ⟨S27648x5, .bf16⟩
  | .hbm, ⟨48, _⟩ => ⟨S27648x5x1x1, .bf16⟩
  | .hbm, ⟨49, _⟩ => ⟨S27648x5x512x2, .bf16⟩
  | .hbm, ⟨50, _⟩ => ⟨S27648x5x512x2, .bf16⟩
  | .hbm, ⟨51, _⟩ => ⟨S6x256x5x512x2, .bf16⟩
  | .hbm, ⟨52, _⟩ => ⟨S6x256x27648, .f32⟩
  | .hbm, ⟨53, _⟩ => ⟨S6x256x27648, .bf16⟩
  | .hbm, ⟨54, _⟩ => ⟨S6x256x5120, .bf16⟩
  | _, _ => ⟨S6x256x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel: from any memory with zero counters every weakly fair execution terminates,
with both results at the contents of the last boundary of the run, the arguments as launched and every
counter at zero. -/
theorem run : θ_run defs (onTc (τ := τ) (main (F := F))) ⟨m, fun _ => 0, ρ⟩ (fun r => (∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v5 (by decide)), h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2))⟩)

end Cert.KernelIdeal.Value

end
-- ==== Proof.Sign.lean ====
module

public import Idealize.ShloMosaic.Lib.Pipeline.ValueKit

@[expose] public section

noncomputable section

open Idealize.ShloMosaic

namespace Cert.Rot

/-- The number of ones in the binary writing of `n`, over its low 32 places. -/
def pop (n : ℕ) : ℕ := ((List.range 32).filter fun i => n.testBit i).length

/-- The entry of the Hadamard matrix in row `i`, column `k`: `1` when `i` and `k` share an even number of ones,
    `-1` otherwise. -/
def had (i k : ℕ) : ℝ := if pop (i &&& k) % 2 = 0 then 1 else -1

/-- `pop` counts at most 32 places. -/
theorem pop_le (n : ℕ) : pop n < 33 := by
  unfold pop
  exact Nat.lt_succ_of_le (le_trans (List.length_filter_le _ _) (by simp))

/-- The programs' count of ones of a word is `pop`. -/
theorem ctpop_ofNat (n : ℕ) : IntOp.ctpop (BitVec.ofNat 32 n) = BitVec.ofNat 32 (pop n) := by
  unfold IntOp.ctpop pop
  congr 2
  apply List.filter_congr
  intro i hi
  rw [BitVec.getLsbD_ofNat]
  simp [List.mem_range.mp hi]

/-- `1 - 2 (p mod 2)` on words, read as an integer. -/
theorem word_sign : ∀ p : Fin 33, ((1#32 - 2#32 * (BitVec.ofNat 32 p.val &&& 1#32)).toInt = if p.val % 2 = 0 then 1 else -1) := by
  decide

/-- The programs' word `1 - 2 (popcount (i and k) and 1)` is the Hadamard entry. -/
theorem word_had (i k : ℕ) :
    (((1#32 - 2#32 * (IntOp.ctpop (BitVec.ofNat 32 i &&& BitVec.ofNat 32 k) &&& 1#32)).toInt : ℝ)) = had i k := by
  have h1 : BitVec.ofNat 32 i &&& BitVec.ofNat 32 k = BitVec.ofNat 32 (i &&& k) := by
    apply BitVec.eq_of_getLsbD_eq
    intro j hj
    simp [BitVec.getLsbD_ofNat, hj, Nat.testBit_and]
  rw [h1, ctpop_ofNat, word_sign ⟨pop (i &&& k), pop_le _⟩]
  unfold had
  split <;> simp

/-- The ones of `256 u + v` are those of `u` and those of `v`. -/
theorem pop_split : ∀ (u : Fin 4) (v : Fin 256), pop (256 * u.val + v.val) = pop u.val + pop v.val := by
  decide +kernel

/-- Bitwise and, digit by digit in base 256. -/
theorem land_split (b r i k : ℕ) (hi : i < 256) (hk : k < 256) :
    (256 * b + i) &&& (256 * r + k) = 256 * (b &&& r) + (i &&& k) := by
  have hik : i &&& k < 2 ^ 8 := lt_of_le_of_lt Nat.and_le_left hi
  apply Nat.eq_of_testBit_eq
  intro j
  have e : ∀ a c : ℕ, c < 2 ^ 8 → (256 * a + c).testBit j = if j < 8 then c.testBit j else a.testBit (j - 8) := by
    intro a c hc
    have := Nat.testBit_two_pow_mul_add a hc j
    simpa using this
  rw [Nat.testBit_and, e _ _ hi, e _ _ hk, e _ _ hik]
  split <;> simp [Nat.testBit_and]

/-- The Hadamard matrix of order 1024 is the Kronecker product of those of orders 4 and 256. -/
theorem had_split (b r i k : ℕ) (hb : b < 4) (hi : i < 256) (hk : k < 256) :
    had (256 * b + i) (256 * r + k) = had b r * had i k := by
  unfold had
  have hu : b &&& r < 4 := lt_of_le_of_lt Nat.and_le_left hb
  have hv : i &&& k < 256 := lt_of_le_of_lt Nat.and_le_left hi
  rw [land_split b r i k hi hk, pop_split ⟨b &&& r, hu⟩ ⟨i &&& k, hv⟩]
  simp only
  rcases Nat.mod_two_eq_zero_or_one (pop (b &&& r)) with h1 | h1 <;>
    rcases Nat.mod_two_eq_zero_or_one (pop (i &&& k)) with h2 | h2 <;> simp [Nat.add_mod, h1, h2]

/-- A sum over 1024 places is the sum over four runs of 256. -/
theorem sum_runs (f : ℕ → ℝ) :
    ∑ i : Fin 1024, f i = ∑ b : Fin 4, ∑ i : Fin 256, f (256 * b + i) := by
  refine ((Fin.sum_mul_add_congr (S := 4) (n := 256) fun b i hl => ?_)).symm
  simp [Nat.mul_comm]

/-- Column `256 r + k` of the product with the order-1024 matrix, from the four products with the order-256 one. -/
theorem sum_had (z : ℕ → ℝ) (r k : ℕ) (hk : k < 256) :
    ∑ i : Fin 1024, z i * had i (256 * r + k)
      = ∑ b : Fin 4, had b r * ∑ i : Fin 256, z (256 * b + i) * had i k := by
  rw [sum_runs fun i => z i * had i (256 * r + k)]
  refine Finset.sum_congr rfl fun b _ => ?_
  rw [Finset.mul_sum]
  refine Finset.sum_congr rfl fun i _ => ?_
  rw [had_split b r i k b.isLt i.isLt hk]
  ring

/-- The 16 entries of the Hadamard matrix of order 4, row by row. -/
theorem had4 :
    (had 0 0 = 1 ∧ had 1 0 = 1 ∧ had 2 0 = 1 ∧ had 3 0 = 1)
    ∧ (had 0 1 = 1 ∧ had 1 1 = -1 ∧ had 2 1 = 1 ∧ had 3 1 = -1)
    ∧ (had 0 2 = 1 ∧ had 1 2 = 1 ∧ had 2 2 = -1 ∧ had 3 2 = -1)
    ∧ (had 0 3 = 1 ∧ had 1 3 = -1 ∧ had 2 3 = -1 ∧ had 3 3 = 1) := by
  have h : ∀ i k : Fin 4, pop (i.val &&& k.val) % 2 = 0 ∨ pop (i.val &&& k.val) % 2 = 1 := by decide
  unfold had
  refine ⟨⟨?_, ?_, ?_, ?_⟩, ⟨?_, ?_, ?_, ?_⟩, ⟨?_, ?_, ?_, ?_⟩, ⟨?_, ?_, ?_, ?_⟩⟩ <;>
    first | exact if_pos (by decide) | exact if_neg (by decide)

/-- Products of finite extended reals with the Hadamard column `k`, summed over a run of 256 starting at `o`. -/
def runSum (z : ℕ → EReal) (o k : ℕ) : EReal := ∑ i : Fin 256, z (o + i) * ((had i k : ℝ) : EReal)

/-- Column `k` of the product of 1024 terms with the Hadamard matrix. -/
def fullSum (z : ℕ → EReal) (k : ℕ) : EReal := ∑ i : Fin 1024, z i * ((had i k : ℝ) : EReal)

/-- A run's sum of real numbers is a real number. -/
theorem runSum_coe (z : ℕ → ℝ) (o k : ℕ) :
    runSum (fun i => (z i : EReal)) o k = ((∑ i : Fin 256, z (o + i) * had i k : ℝ) : EReal) := by
  unfold runSum
  simp only [← EReal.coe_mul]
  exact (map_sum (⟨⟨((↑) : ℝ → EReal), rfl⟩, EReal.coe_add⟩ : ℝ →+ EReal) _ _).symm

/-- The sum of 1024 real terms is a real number. -/
theorem fullSum_coe (z : ℕ → ℝ) (k : ℕ) :
    fullSum (fun i => (z i : EReal)) k = ((∑ i : Fin 1024, z i * had i k : ℝ) : EReal) := by
  unfold fullSum
  simp only [← EReal.coe_mul]
  exact (map_sum (⟨⟨((↑) : ℝ → EReal), rfl⟩, EReal.coe_add⟩ : ℝ →+ EReal) _ _).symm

variable (z : ℕ → ℝ) (k : ℕ) (hk : k < 256)
include hk

/-- The first output of the two-level butterfly over the four runs: columns `0 … 255`. -/
theorem butterfly0 :
    (runSum (fun i => (z i : EReal)) 0 k + runSum (fun i => (z i : EReal)) 256 k)
      + (runSum (fun i => (z i : EReal)) 512 k + runSum (fun i => (z i : EReal)) 768 k)
      = fullSum (fun i => (z i : EReal)) (256 * 0 + k) := by
  simp only [runSum_coe, fullSum_coe, ← EReal.coe_add, ← EReal.coe_sub, EReal.coe_eq_coe_iff]
  rw [sum_had z 0 k hk, Fin.sum_univ_four]
  obtain ⟨⟨a, b, c, d⟩, -, -, -⟩ := had4
  simp [a, b, c, d]; ring

/-- The second output: columns `256 … 511`. -/
theorem butterfly1 :
    (runSum (fun i => (z i : EReal)) 0 k - runSum (fun i => (z i : EReal)) 256 k)
      + (runSum (fun i => (z i : EReal)) 512 k - runSum (fun i => (z i : EReal)) 768 k)
      = fullSum (fun i => (z i : EReal)) (256 * 1 + k) := by
  simp only [runSum_coe, fullSum_coe, ← EReal.coe_add, ← EReal.coe_sub, EReal.coe_eq_coe_iff]
  rw [sum_had z 1 k hk, Fin.sum_univ_four]
  obtain ⟨-, ⟨a, b, c, d⟩, -, -⟩ := had4
  simp [a, b, c, d]; ring

/-- The third output: columns `512 … 767`. -/
theorem butterfly2 :
    (runSum (fun i => (z i : EReal)) 0 k + runSum (fun i => (z i : EReal)) 256 k)
      - (runSum (fun i => (z i : EReal)) 512 k + runSum (fun i => (z i : EReal)) 768 k)
      = fullSum (fun i => (z i : EReal)) (256 * 2 + k) := by
  simp only [runSum_coe, fullSum_coe, ← EReal.coe_add, ← EReal.coe_sub, EReal.coe_eq_coe_iff]
  rw [sum_had z 2 k hk, Fin.sum_univ_four]
  obtain ⟨-, -, ⟨a, b, c, d⟩, -⟩ := had4
  simp [a, b, c, d]; ring

/-- The fourth output: columns `768 … 1023`. -/
theorem butterfly3 :
    (runSum (fun i => (z i : EReal)) 0 k - runSum (fun i => (z i : EReal)) 256 k)
      - (runSum (fun i => (z i : EReal)) 512 k - runSum (fun i => (z i : EReal)) 768 k)
      = fullSum (fun i => (z i : EReal)) (256 * 3 + k) := by
  simp only [runSum_coe, fullSum_coe, ← EReal.coe_add, ← EReal.coe_sub, EReal.coe_eq_coe_iff]
  rw [sum_had z 3 k hk, Fin.sum_univ_four]
  obtain ⟨-, -, -, ⟨a, b, c, d⟩⟩ := had4
  simp [a, b, c, d]; ring

end Cert.Rot

end
-- ==== Proof.RotateBlock.lean ====
module

public import proofs.«01_k».proof.Proof.Gen.KernelIdeal.Frame
public import proofs.«01_k».proof.Proof.Sign
public import Idealize.ShloMosaic.Lib.Pipeline.ValueKit

@[expose] public section

set_option maxRecDepth 16384

noncomputable section

open Idealize.ShloMosaic Idealize.ShloMosaic.TcCoe Idealize.SL.Sem

namespace Cert.Rot

/-- The rotated row at column `n`: the row `f` of signed activations, its group of 1024 columns times the Hadamard
    column, scaled by the constant the programs write (1/32). -/
def rotVal (f : ℕ → ℝ) (n : ℕ) : EReal :=
  fullSum (fun i => (f (1024 * (n / 1024) + i) : EReal)) (n % 1024) * Ideal.ofBits FTy.f32 0x3D000000#32

/-- The column of the rotation that the deinterleaved order keeps at column `n`: within each 256 columns the even
    ones come first, the odd ones after. -/
def deint (n : ℕ) : ℕ := 256 * (n / 256) + (2 * (n % 256 % 128) + n % 256 / 128)

variable (f : ℕ → ℝ) (n o k : ℕ) (hk : k < 256) (ho : o % 1024 = 0)
include hk ho

/-- A rotated column in the first quarter of its group, as the butterfly of the four runs computes it. -/
theorem rotVal0 (hn : n = o + k) :
    rotVal f n = ((∑ i : Fin 256, (f (o + i) : EReal) * ((had i k : ℝ) : EReal)) + (∑ i : Fin 256, (f (o + 256 + i) : EReal) * ((had i k : ℝ) : EReal))
      + ((∑ i : Fin 256, (f (o + 512 + i) : EReal) * ((had i k : ℝ) : EReal)) + (∑ i : Fin 256, (f (o + 768 + i) : EReal) * ((had i k : ℝ) : EReal))))
      * Ideal.ofBits FTy.f32 0x3D000000#32 := by
  have e1 : 1024 * (n / 1024) = o := by omega
  have e2 : n % 1024 = 256 * 0 + k := by omega
  unfold rotVal
  rw [e1, e2, ← butterfly0 (fun i => f (o + i)) k hk]
  simp only [runSum, Nat.zero_add, Nat.add_assoc]

/-- A rotated column in the second quarter of its group, as the butterfly of the four runs computes it. -/
theorem rotVal1 (hn : n = o + 256 + k) :
    rotVal f n = ((∑ i : Fin 256, (f (o + i) : EReal) * ((had i k : ℝ) : EReal)) - (∑ i : Fin 256, (f (o + 256 + i) : EReal) * ((had i k : ℝ) : EReal))
      + ((∑ i : Fin 256, (f (o + 512 + i) : EReal) * ((had i k : ℝ) : EReal)) - (∑ i : Fin 256, (f (o + 768 + i) : EReal) * ((had i k : ℝ) : EReal))))
      * Ideal.ofBits FTy.f32 0x3D000000#32 := by
  have e1 : 1024 * (n / 1024) = o := by omega
  have e2 : n % 1024 = 256 * 1 + k := by omega
  unfold rotVal
  rw [e1, e2, ← butterfly1 (fun i => f (o + i)) k hk]
  simp only [runSum, Nat.zero_add, Nat.add_assoc]

/-- A rotated column in the third quarter of its group, as the butterfly of the four runs computes it. -/
theorem rotVal2 (hn : n = o + 512 + k) :
    rotVal f n = ((∑ i : Fin 256, (f (o + i) : EReal) * ((had i k : ℝ) : EReal)) + (∑ i : Fin 256, (f (o + 256 + i) : EReal) * ((had i k : ℝ) : EReal))
      - ((∑ i : Fin 256, (f (o + 512 + i) : EReal) * ((had i k : ℝ) : EReal)) + (∑ i : Fin 256, (f (o + 768 + i) : EReal) * ((had i k : ℝ) : EReal))))
      * Ideal.ofBits FTy.f32 0x3D000000#32 := by
  have e1 : 1024 * (n / 1024) = o := by omega
  have e2 : n % 1024 = 256 * 2 + k := by omega
  unfold rotVal
  rw [e1, e2, ← butterfly2 (fun i => f (o + i)) k hk]
  simp only [runSum, Nat.zero_add, Nat.add_assoc]

/-- A rotated column in the fourth quarter of its group, as the butterfly of the four runs computes it. -/
theorem rotVal3 (hn : n = o + 768 + k) :
    rotVal f n = ((∑ i : Fin 256, (f (o + i) : EReal) * ((had i k : ℝ) : EReal)) - (∑ i : Fin 256, (f (o + 256 + i) : EReal) * ((had i k : ℝ) : EReal))
      - ((∑ i : Fin 256, (f (o + 512 + i) : EReal) * ((had i k : ℝ) : EReal)) - (∑ i : Fin 256, (f (o + 768 + i) : EReal) * ((had i k : ℝ) : EReal))))
      * Ideal.ofBits FTy.f32 0x3D000000#32 := by
  have e1 : 1024 * (n / 1024) = o := by omega
  have e2 : n % 1024 = 256 * 3 + k := by omega
  unfold rotVal
  rw [e1, e2, ← butterfly3 (fun i => f (o + i)) k hk]
  simp only [runSum, Nat.zero_add, Nat.add_assoc]

omit f n o k hk ho
omit hk ho in
/-- The Hadamard entry as the programs compute it from the row and the column number. -/
theorem sign_word (i k : ℕ) :
    (FloatOps.sitofp (F := Ideal) FTy.f32 (IntOp.subi 1#32 (IntOp.muli 2#32 (IntOp.andi (IntOp.ctpop (IntOp.andi (BitVec.ofNat 32 i) (BitVec.ofNat 32 k))) 1#32))) : EReal)
      = ((had i k : ℝ) : EReal) :=
  congrArg (fun r : ℝ => (r : EReal)) (word_had i k)

omit hk ho in
/-- The deinterleaved column number as the programs compute it. -/
theorem deint_word : ∀ k : Fin 256,
    IntOp.ori (IntOp.shli ArithUnit.vector (IntOp.andi (BitVec.ofNat 32 k.val) 127#32) 1#32) (IntOp.shrsi ArithUnit.vector (BitVec.ofNat 32 k.val) 7#32)
      = BitVec.ofNat 32 (2 * (k.val % 128) + k.val / 128) := by
  decide

end Cert.Rot

namespace Cert.KernelIdeal.Value

open Cert.KernelIdeal Cert.KernelIdeal.Gen Cert.Rot

variable (x0 : Vec Ideal S256x5120 .bf16) (x1 : Vec Ideal S1x5120 .i8) (z : ℕ → ℕ → ℝ)
  (hz : ∀ (a : Fin 256) (c : Fin 5120), (x0 (ix2 a c) * FloatOps.sitofp (F := Ideal) FTy.f32 (x1 (ix2 0 c)) : EReal) = (z a c : EReal))
include hz

set_option maxHeartbeats 2000000 in
/-- What the rotation's body leaves in its first output block, from finite activations. -/
theorem rot_block (a : Fin 256) (n : Fin 5120) : out0_2 x0 x1 (ix2 a n) = rotVal (z a) n := by
  unfold_out out0_2
  canon_tiles w h
  all_goals
    (idx_vars w
     try simp only [ix2_0, ix2_1] at h0 h1
     obtain rfl : a = _ := Fin.ext h0
     open_payloads
     pointwise
     try simp only [hz, sign_word]
     first
      | rw [rotVal0 (z a) n 0 w1 w1_lt rfl (by omega)]
      | rw [rotVal1 (z a) n 0 w1 w1_lt rfl (by omega)]
      | rw [rotVal2 (z a) n 0 w1 w1_lt rfl (by omega)]
      | rw [rotVal3 (z a) n 0 w1 w1_lt rfl (by omega)]
      | rw [rotVal0 (z a) n 1024 w1 w1_lt rfl (by omega)]
      | rw [rotVal1 (z a) n 1024 w1 w1_lt rfl (by omega)]
      | rw [rotVal2 (z a) n 1024 w1 w1_lt rfl (by omega)]
      | rw [rotVal3 (z a) n 1024 w1 w1_lt rfl (by omega)]
      | rw [rotVal0 (z a) n 2048 w1 w1_lt rfl (by omega)]
      | rw [rotVal1 (z a) n 2048 w1 w1_lt rfl (by omega)]
      | rw [rotVal2 (z a) n 2048 w1 w1_lt rfl (by omega)]
      | rw [rotVal3 (z a) n 2048 w1 w1_lt rfl (by omega)]
      | rw [rotVal0 (z a) n 3072 w1 w1_lt rfl (by omega)]
      | rw [rotVal1 (z a) n 3072 w1 w1_lt rfl (by omega)]
      | rw [rotVal2 (z a) n 3072 w1 w1_lt rfl (by omega)]
      | rw [rotVal3 (z a) n 3072 w1 w1_lt rfl (by omega)]
      | rw [rotVal0 (z a) n 4096 w1 w1_lt rfl (by omega)]
      | rw [rotVal1 (z a) n 4096 w1 w1_lt rfl (by omega)]
      | rw [rotVal2 (z a) n 4096 w1 w1_lt rfl (by omega)]
      | rw [rotVal3 (z a) n 4096 w1 w1_lt rfl (by omega)]
     try simp only [Nat.reduceAdd, Nat.zero_add])

set_option maxHeartbeats 2000000 in
/-- What the rotation's body leaves in its second output block, from finite activations: the same columns, within
    each 256 the even ones first. -/
theorem xq_block (a : Fin 256) (n : Fin 5120) : out0_3 x0 x1 (ix2 a n) = rotVal (z a) (deint n) := by
  unfold_out out0_3
  canon_tiles w h
  all_goals
    (idx_vars w
     try simp only [ix2_0, ix2_1] at h0 h1
     obtain rfl : a = _ := Fin.ext h0
     have hd : 2 * (w1.val % 128) + w1.val / 128 < 256 := by omega
     open_payloads
     pointwise
     try simp only [hz, deint_word, sign_word]
     first
      | rw [rotVal0 (z a) (deint n) 0 (2 * (w1.val % 128) + w1.val / 128) hd rfl (by unfold deint; omega)]
      | rw [rotVal1 (z a) (deint n) 0 (2 * (w1.val % 128) + w1.val / 128) hd rfl (by unfold deint; omega)]
      | rw [rotVal2 (z a) (deint n) 0 (2 * (w1.val % 128) + w1.val / 128) hd rfl (by unfold deint; omega)]
      | rw [rotVal3 (z a) (deint n) 0 (2 * (w1.val % 128) + w1.val / 128) hd rfl (by unfold deint; omega)]
      | rw [rotVal0 (z a) (deint n) 1024 (2 * (w1.val % 128) + w1.val / 128) hd rfl (by unfold deint; omega)]
      | rw [rotVal1 (z a) (deint n) 1024 (2 * (w1.val % 128) + w1.val / 128) hd rfl (by unfold deint; omega)]
      | rw [rotVal2 (z a) (deint n) 1024 (2 * (w1.val % 128) + w1.val / 128) hd rfl (by unfold deint; omega)]
      | rw [rotVal3 (z a) (deint n) 1024 (2 * (w1.val % 128) + w1.val / 128) hd rfl (by unfold deint; omega)]
      | rw [rotVal0 (z a) (deint n) 2048 (2 * (w1.val % 128) + w1.val / 128) hd rfl (by unfold deint; omega)]
      | rw [rotVal1 (z a) (deint n) 2048 (2 * (w1.val % 128) + w1.val / 128) hd rfl (by unfold deint; omega)]
      | rw [rotVal2 (z a) (deint n) 2048 (2 * (w1.val % 128) + w1.val / 128) hd rfl (by unfold deint; omega)]
      | rw [rotVal3 (z a) (deint n) 2048 (2 * (w1.val % 128) + w1.val / 128) hd rfl (by unfold deint; omega)]
      | rw [rotVal0 (z a) (deint n) 3072 (2 * (w1.val % 128) + w1.val / 128) hd rfl (by unfold deint; omega)]
      | rw [rotVal1 (z a) (deint n) 3072 (2 * (w1.val % 128) + w1.val / 128) hd rfl (by unfold deint; omega)]
      | rw [rotVal2 (z a) (deint n) 3072 (2 * (w1.val % 128) + w1.val / 128) hd rfl (by unfold deint; omega)]
      | rw [rotVal3 (z a) (deint n) 3072 (2 * (w1.val % 128) + w1.val / 128) hd rfl (by unfold deint; omega)]
      | rw [rotVal0 (z a) (deint n) 4096 (2 * (w1.val % 128) + w1.val / 128) hd rfl (by unfold deint; omega)]
      | rw [rotVal1 (z a) (deint n) 4096 (2 * (w1.val % 128) + w1.val / 128) hd rfl (by unfold deint; omega)]
      | rw [rotVal2 (z a) (deint n) 4096 (2 * (w1.val % 128) + w1.val / 128) hd rfl (by unfold deint; omega)]
      | rw [rotVal3 (z a) (deint n) 4096 (2 * (w1.val % 128) + w1.val / 128) hd rfl (by unfold deint; omega)]
     try simp only [Nat.reduceAdd, Nat.zero_add])

end Cert.KernelIdeal.Value

end
-- ==== Proof.RotateArray.lean ====
module

public import proofs.«01_k».proof.Proof.RotateBlock

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Rot

/-- The index maps of the first call: point `t` reads and writes row block `t`, and the one sign row. -/
theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

section

variable (V : (c : Dev nD) → (b : Ref sig .tc) → Buf (Elt Ideal) ((c : Thread nD τ).loc b)) (c : Dev nD)
  (X : Vec Ideal S1536x5120 .bf16) (S : Vec Ideal S1x5120 .i8) (hX : V c main_v0 = X) (hS : V c main_v1 = S)
  (Z : ℕ → ℕ → ℝ)
  (hZ : ∀ (r : Fin 1536) (n : Fin 5120),
    (X (ix2 r n) * FloatOps.sitofp (F := Ideal) FTy.f32 (S (ix2 0 n)) : EReal) = (Z r n : EReal))

include hX hS hZ

/-- The two blocks point `t` reads hold rows `256 t + a` of the input and the row of signs. -/
theorem rows0 (t : Fin cfg0.N) (x0 : Vec Ideal S256x5120 .bf16) (x1 : Vec Ideal S1x5120 .i8)
    (e0 : iblk0 V c 0 t = x0) (e1 : iblk0 V c 1 t = x1) (a : Fin 256) (n : Fin 5120) :
    (x0 (ix2 a n) * FloatOps.sitofp (F := Ideal) FTy.f32 (x1 (ix2 0 n)) : EReal) = (Z (256 * t + a) n : EReal) := by
  have ht : t.val < 6 := t.isLt
  have ha := a.isLt
  have e0 : x0 (ix2 a n) = X (ix2 (⟨256 * t + a, by omega⟩ : Fin 1536) n) := by
    rw [← hX, ← e0]
    blk_ext [iblk0, idx0 t]
  have e1 : x1 (ix2 0 n) = S (ix2 0 n) := by
    rw [← hS, ← e1]
    blk_ext [iblk0, idx0 t]
  rw [e0, e1]
  exact hZ ⟨256 * t + a, by omega⟩ n

/-- The first result of the first call: entry `(r, n)` is the rotated row `r` at column `n`. -/
theorem rot_array : (dat0 V c).arrAt 2 cfg0.N
    = (show Vec Ideal S1536x5120 .bf16 from fun i => rotVal (Z (i 0)) (i 1)) := by
  refine (dat0 V c).arrAt_eq_of_covers 2 _ (by decide +kernel) fun t _ y => ?_
  blk_simp
  rw [after0_2]
  have key : ∀ y : S256x5120.Idx, out0_2 (iblk0 V c 0 t) (iblk0 V c 1 t) y = rotVal (Z (256 * t + y 0)) (y 1) := by
    intro y
    idx_vars y
    exact rot_block _ _ (fun a => Z (256 * t + a)) (rows0 V c X S hX hS Z hZ t _ _ rfl rfl) y0 y1
  refine (key y).trans ?_
  rw [(idx0 t).2.2.1]
  exact congrArg₂ (fun r n => rotVal (Z r) n) (congrArg (· + (y 0).val) (Nat.mul_comm 256 t.val))
    (by rw [show (![t.val, 0] : Fin 2 → ℕ) 1 = 0 from rfl, Nat.zero_mul, Nat.zero_add])

/-- The second result of the first call: entry `(r, n)` is the rotated row `r` at the column that the
de-interleaving of the 256-column blocks brings to `n`. -/
theorem xq_array : (dat0 V c).arrAt 3 cfg0.N
    = (show Vec Ideal S1536x5120 .bf16 from fun i => rotVal (Z (i 0)) (deint (i 1))) := by
  refine (dat0 V c).arrAt_eq_of_covers 3 _ (by decide +kernel) fun t _ y => ?_
  blk_simp
  rw [after0_3]
  have key : ∀ y : S256x5120.Idx, out0_3 (iblk0 V c 0 t) (iblk0 V c 1 t) y = rotVal (Z (256 * t + y 0)) (deint (y 1)) := by
    intro y
    idx_vars y
    exact xq_block _ _ (fun a => Z (256 * t + a)) (rows0 V c X S hX hS Z hZ t _ _ rfl rfl) y0 y1
  refine (key y).trans ?_
  rw [(idx0 t).2.2.2]
  exact congrArg₂ (fun r n => rotVal (Z r) (deint n)) (congrArg (· + (y 0).val) (Nat.mul_comm 256 t.val))
    (by rw [show (![t.val, 0] : Fin 2 → ℕ) 1 = 0 from rfl, Nat.zero_mul, Nat.zero_add])

end

end Cert.KernelIdeal.Value
-- ==== Proof.Word.lean ====
module

public import proofs.«01_k».proof.Proof.Gen.KernelIdeal.Frame
public import Idealize.ShloMosaic.Lib.Pipeline.ValueKit

@[expose] public section

noncomputable section

open Idealize.ShloMosaic Idealize.ShloMosaic.TcCoe Idealize.SL.Sem

namespace Cert.Dec

/-- The word a lookup reads: the low seven bits of the code choose a lane, the top bit one of the
two rows of the table, so the word is the one the code numbers. -/
theorem pick (words : ℕ → BitVec 32) (b : BitVec 8) :
    Scalar.select (IntOp.cmpi .sge (BitVec.setWidth 32 b) 128#32)
      (words (128 + (Scalar.select (IntOp.cmpi .slt (IntOp.andi (BitVec.setWidth 32 b) 127#32) 0#32)
        (IntOp.addi (IntOp.andi (BitVec.setWidth 32 b) 127#32) 128#32) (IntOp.andi (BitVec.setWidth 32 b) 127#32)).toNat % 128))
      (words ((Scalar.select (IntOp.cmpi .slt (IntOp.andi (BitVec.setWidth 32 b) 127#32) 0#32)
        (IntOp.addi (IntOp.andi (BitVec.setWidth 32 b) 127#32) 128#32) (IntOp.andi (BitVec.setWidth 32 b) 127#32)).toNat % 128))
      = words b.toNat := by
  have key : ∀ i : Fin 256,
      (Scalar.select (IntOp.cmpi .slt (IntOp.andi (BitVec.setWidth 32 (BitVec.ofFin (w := 8) i)) 127#32) 0#32)
        (IntOp.addi (IntOp.andi (BitVec.setWidth 32 (BitVec.ofFin (w := 8) i)) 127#32) 128#32)
        (IntOp.andi (BitVec.setWidth 32 (BitVec.ofFin (w := 8) i)) 127#32)).toNat % 128 = i.val % 128
      ∧ IntOp.cmpi .sge (BitVec.setWidth 32 (BitVec.ofFin (w := 8) i)) 128#32 = BitVec.ofBool (decide (128 ≤ i.val)) := by
    decide +kernel
  obtain ⟨i⟩ := b
  rw [(key i).1, (key i).2]
  have hi : i.val < 256 := i.isLt
  change _ = words i.val
  unfold Scalar.select
  by_cases h : 128 ≤ i.val
  · rw [if_pos (by simp [h])]
    congr 1
    omega
  · rw [if_neg (by simp [h])]
    congr 1
    omega

/-- The low half of a word. -/
theorem low_half (w : BitVec 32) : BitVec.setWidth 16 w = w.extractLsb' (0 * 16) 16 := by
  apply BitVec.eq_of_getLsbD_eq
  intro i hi
  simp

/-- The high half of a word. -/
theorem high_half (w : BitVec 32) :
    BitVec.setWidth 16 (IntOp.shrsi ArithUnit.vector w 16#32) = w.extractLsb' (1 * 16) 16 := by
  have e : IntOp.shrsi ArithUnit.vector w 16#32 = w.sshiftRight' 16#32 := by
    unfold IntOp.shrsi
    exact if_pos (by decide)
  rw [e]
  apply BitVec.eq_of_getLsbD_eq
  intro i hi
  simp [BitVec.getLsbD_sshiftRight]
  rw [if_pos (by omega)]
  have h32 : ¬ 32 ≤ i := by omega
  simp [h32]

/-- The decoded weight of output column `n` at position `k` of the contraction: position `k` lies in
block `k / 256` of 256 positions; the first 128 of a block hold the low halves of the words of 128
consecutive codes, the last 128 their high halves; the scale changes every 1024 positions. -/
def wdec (words : ℕ → BitVec 32) (code : ℕ → ℕ → BitVec 8) (scale : ℕ → ℕ → EReal) (n k : ℕ) : EReal :=
  Ideal.ofBits FTy.bf16
      ((words (code n (128 * (k / 256) + k % 128)).toNat).extractLsb' (k % 256 / 128 * 16) 16)
    * scale n (k / 1024)

/-- The decoded weight with its index computations carried out. -/
theorem wdec_at (words : ℕ → BitVec 32) (code : ℕ → ℕ → BitVec 8) (scale : ℕ → ℕ → EReal) (n n' k j p g : ℕ)
    (hn : n = n') (hj : 128 * (k / 256) + k % 128 = j) (hp : k % 256 / 128 = p) (hg : k / 1024 = g) :
    Ideal.ofBits FTy.bf16 ((words (code n' j).toNat).extractLsb' (p * 16) 16) * scale n' g
      = wdec words code scale n k := by
  subst hn hj hp hg
  rfl

end Cert.Dec
-- ==== Proof.DecodeBlock.lean ====
module

public import proofs.«01_k».proof.Proof.Word

@[expose] public section

set_option maxRecDepth 16384

noncomputable section

open Idealize.ShloMosaic Idealize.ShloMosaic.TcCoe Idealize.SL.Sem

namespace Cert.KernelIdeal.Value

open Cert.KernelIdeal Cert.KernelIdeal.Gen Cert.Dec

/-- An entry of the block is the one the row-major rectangle that starts at its corner lists there. -/
theorem idx_whole (n : Fin 512) (k : Fin 5120) :
    (Rect.unit ![0, 0] ![512, 5120] inb_S512x5120_S512x5120_0_0).idx (ix2 n k) = ix2 n k := by
  pointwise

set_option maxHeartbeats 4000000 in
/-- One block of the matrix product: entry `(m, n)` is the row `m` of the rotated input against the
decoded weights of the block's output column `n`. -/
theorem decode_block (V : (c : Dev nD) → (b : Ref sig .tc) → Buf (Elt Ideal) ((c : Thread nD τ).loc b)) (c : Dev nD)
    (t : Fin cfg1.N) (x0 : Vec Ideal S1536x5120 .bf16) (x1 : Vec Ideal S2x128 .i32) (x2 : Vec Ideal S512x2560 .i8)
    (x3 : Vec Ideal S512x5 .f32)
    (e0 : iblk1 V c 0 t = x0) (e1 : iblk1 V c 1 t = x1) (e2 : iblk1 V c 2 t = x2) (e3 : iblk1 V c 3 t = x3)
    (words : ℕ → BitVec 32) (code : ℕ → ℕ → BitVec 8) (scale : ℕ → ℕ → EReal)
    (hlo : ∀ l : Fin 128, x1 (ix2 0 l) = words l) (hhi : ∀ l : Fin 128, x1 (ix2 1 l) = words (128 + l))
    (hc : ∀ (n : Fin 512) (j : Fin 2560), x2 (ix2 n j) = code n j)
    (hs : ∀ (n : Fin 512) (g : Fin 5), x3 (ix2 n g) = scale n g)
    (m : Fin 1536) (n : Fin 512) :
    outsAt1 V c t (ix2 m n) = ∑ k : Fin 5120, x0 (ix2 m k) * wdec words code scale n k := by
  unfold outsAt1
  rw [e0, e1, e2, e3]
  frame_out
  pointwise [k1_pay1, k1_pay126]
  refine Fin.sum_fin_congr fun k => ?_
  refine Ideal.mul_congr rfl ?_
  rw [View.readCov_eq_canon']
  refine (congrArg (View.canon _) (idx_whole n k)).trans ?_
  canon_tiles w h
  all_goals
    idx_vars w
    open_payloads
    pointwise
    simp only [hlo, hhi, hc, hs, pick, high_half]
    try simp only [low_half]
    refine wdec_at words code scale n _ k _ _ _ h0 ?_ ?_ ?_ <;> (try simp only [Fin.isValue, Fin.reduceFinMk]) <;> omega

end Cert.KernelIdeal.Value
-- ==== Proof.DecodeArray.lean ====
module

public import proofs.«01_k».proof.Proof.DecodeBlock

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Dec

/-- The index maps of the second call: every point reads the whole rotated input and the whole table;
point `t` reads row block `t` of the codes and of the scales and writes column block `t`. -/
theorem idx1 : ∀ t : Fin cfg1.N, win1_0.index t = ![0, 0] ∧ win1_1.index t = ![0, 0]
    ∧ win1_2.index t = ![t.val, 0] ∧ win1_3.index t = ![t.val, 0] ∧ win1_4.index t = ![0, t.val] :=
  (by decide +kernel : ∀ t : Fin grid1.N, _)

section

variable (V : (c : Dev nD) → (b : Ref sig .tc) → Buf (Elt Ideal) ((c : Thread nD τ).loc b)) (c : Dev nD)
  (Q : Vec Ideal S1536x5120 .bf16) (T : Vec Ideal S2x128 .i32) (C : Vec Ideal S27648x2560 .i8) (L : Vec Ideal S27648x5 .f32)
  (hQ : V c main_v2_1 = Q) (hT : V c main_v3 = T) (hC : V c main_arg3 = C) (hL : V c main_arg4 = L)
  (words : ℕ → BitVec 32) (code : ℕ → ℕ → BitVec 8) (scale : ℕ → ℕ → EReal)
  (q : ℕ → ℕ → EReal) (hq : ∀ (r : Fin 1536) (k : Fin 5120), Q (ix2 r k) = q r k)
  (hlo : ∀ l : Fin 128, T (ix2 0 l) = words l) (hhi : ∀ l : Fin 128, T (ix2 1 l) = words (128 + l))
  (hc : ∀ (n : Fin 27648) (j : Fin 2560), C (ix2 n j) = code n j)
  (hs : ∀ (n : Fin 27648) (g : Fin 5), L (ix2 n g) = scale n g)

include hQ hT hC hL hq hlo hhi hc hs

/-- One point of the second call at an index of its block. -/
theorem decode_point (t : Fin cfg1.N) (x0 : Vec Ideal S1536x5120 .bf16) (x1 : Vec Ideal S2x128 .i32)
    (x2 : Vec Ideal S512x2560 .i8) (x3 : Vec Ideal S512x5 .f32)
    (e0 : iblk1 V c 0 t = x0) (e1 : iblk1 V c 1 t = x1) (e2 : iblk1 V c 2 t = x2) (e3 : iblk1 V c 3 t = x3)
    (m : Fin 1536) (n : Fin 512) :
    outsAt1 V c t (ix2 m n) = ∑ k : Fin 5120, q m k * wdec words code scale (512 * t + n) k := by
  have ht : t.val < 54 := t.isLt
  have f0 : ∀ k : Fin 5120, x0 (ix2 m k) = Q (ix2 m k) := by
    intro k
    rw [← hQ, ← e0]
    blk_ext [iblk1, idx1 t]
  have f1 : ∀ (h : Fin 2) (l : Fin 128), x1 (ix2 h l) = T (ix2 h l) := by
    intro h l
    rw [← hT, ← e1]
    blk_ext [iblk1, idx1 t]
  have f2 : ∀ (a : Fin 512) (j : Fin 2560), x2 (ix2 a j) = C (ix2 (⟨512 * t + a, by omega⟩ : Fin 27648) j) := by
    intro a j
    rw [← hC, ← e2]
    blk_ext [iblk1, idx1 t]
  have f3 : ∀ (a : Fin 512) (g : Fin 5), x3 (ix2 a g) = L (ix2 (⟨512 * t + a, by omega⟩ : Fin 27648) g) := by
    intro a g
    rw [← hL, ← e3]
    blk_ext [iblk1, idx1 t]
  rw [decode_block V c t x0 x1 x2 x3 e0 e1 e2 e3 words (fun a j => code (512 * t + a) j)
    (fun a g => scale (512 * t + a) g) (fun l => (f1 0 l).trans (hlo l)) (fun l => (f1 1 l).trans (hhi l))
    (fun a j => (f2 a j).trans (hc _ j)) (fun a g => (f3 a g).trans (hs _ g)) m n]
  exact Fin.sum_fin_congr fun k => by rw [f0 k, hq m k]; rfl

/-- The result of the second call: entry `(m, n)` is row `m` of the rotated input against the decoded
weights of output column `n`. -/
theorem decode_array : (dat1 V c).arrAt 4 cfg1.N
    = (show Vec Ideal S1536x27648 .bf16 from fun i =>
        ∑ k : Fin 5120, q (i 0) k * wdec words code scale (i 1) k) := by
  refine (dat1 V c).arrAt_eq_of_covers 4 _ (by decide +kernel) fun t _ y => ?_
  blk_simp
  rw [after1_4]
  have key : ∀ y : S1536x512.Idx, outsAt1 V c t y
      = ∑ k : Fin 5120, q (y 0) k * wdec words code scale (512 * t + y 1) k := by
    intro y
    idx_vars y
    exact decode_point V c Q T C L hQ hT hC hL words code scale q hq hlo hhi hc hs t _ _ _ _ rfl rfl rfl rfl y0 y1
  refine (key y).trans ?_
  rw [(idx1 t).2.2.2.2]
  exact congrArg₂ (fun r n => ∑ k : Fin 5120, q r k * wdec words code scale n k)
    (by rw [show (![0, t.val] : Fin 2 → ℕ) 0 = 0 from rfl, Nat.zero_mul, Nat.zero_add])
    (congrArg (· + (y 1).val) (Nat.mul_comm 512 t.val))

end

end Cert.KernelIdeal.Value
-- ==== Proof.Results.lean ====
module

public import proofs.«01_k».proof.Proof.RotateArray
public import proofs.«01_k».proof.Proof.DecodeArray
public import Idealize.ShloMosaic.Lib.StableHlo.Run

@[expose] public section

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.Rot Cert.Dec

section

variable (m : (ℓ : Loc nD τ sig) → Buf (Elt Ideal) ℓ) (ρ : Dev nD → PrngReg) (c : Dev nD)

/-- The first call reads the input with its two leading axes joined. -/
theorem entry_v0 : V1 m ρ c main_v0
    = shapeCast S1536x5120 (m ((c.tc : Thread nD τ).loc main_arg0) : Vec Ideal S6x256x5120 .bf16) shapeCasts_S6x256x5120_S1536x5120 := by
  change StableHlo.after hostOps0 (W0 m ρ c) (Proc.devRef .tc main_v0) = _
  after_results_simp <;> rfl

/-- The first call reads the signs as one row. -/
theorem entry_v1 : V1 m ρ c main_v1
    = shapeCast S1x5120 (m ((c.tc : Thread nD τ).loc main_arg1) : Vec Ideal S5120 .i8) shapeCasts_S5120_S1x5120 := by
  change StableHlo.after hostOps0 (W0 m ρ c) (Proc.devRef .tc main_v1) = _
  after_results_simp <;> rfl

/-- The second call reads the codebook as two rows of 128 words. -/
theorem entry_v3 : V3 m ρ c main_v3
    = shapeCast S2x128 (m ((c.tc : Thread nD τ).loc main_arg2) : Vec Ideal S256 .i32) shapeCasts_S256_S2x128 := by
  change StableHlo.after hostOps1 (W2 m ρ c) (Proc.devRef .tc main_v3) = _
  after_results_simp
  exact congrArg (fun x => shapeCast S2x128 x shapeCasts_S256_S2x128) (W2_args m ρ c main_arg2 (by decide))

/-- The second call reads the second result of the first. -/
theorem entry_xq : V3 m ρ c main_v2_1 = (dat0 (V1 m ρ) c).arrAt 3 cfg0.N :=
  (W3_of m ρ c main_v2_1 (by decide)).trans (W2_arr m ρ c 3)

/-- The second call reads the codes as given. -/
theorem entry_codes : V3 m ρ c main_arg3 = m ((c.tc : Thread nD τ).loc main_arg3) := W3_args m ρ c main_arg3 (by decide)

/-- The second call reads the scales as given. -/
theorem entry_scales : V3 m ρ c main_arg4 = m ((c.tc : Thread nD τ).loc main_arg4) := W3_args m ρ c main_arg4 (by decide)

/-- The first result is the array of the second call, its rows split back. -/
theorem exit_v5 : W5 m ρ c (Proc.devRef .tc main_v5)
    = shapeCast S6x256x27648 ((dat1 (V3 m ρ) c).arrAt 4 cfg1.N : Vec Ideal S1536x27648 .bf16) shapeCasts_S1536x27648_S6x256x27648 := by
  change StableHlo.after hostOps2 (W4 m ρ c) (Proc.devRef .tc main_v5) = _
  after_results_simp
  exact congrArg (fun x => shapeCast S6x256x27648 x shapeCasts_S1536x27648_S6x256x27648) (W4_arr m ρ c 4)

/-- The second result is the first array of the first call, its rows split back. -/
theorem exit_v6 : W5 m ρ c (Proc.devRef .tc main_v6)
    = shapeCast S6x256x5120 ((dat0 (V1 m ρ) c).arrAt 2 cfg0.N : Vec Ideal S1536x5120 .bf16) shapeCasts_S1536x5120_S6x256x5120 := by
  change StableHlo.after hostOps2 (W4 m ρ c) (Proc.devRef .tc main_v6) = _
  after_results_simp
  exact congrArg (fun x => shapeCast S6x256x5120 x shapeCasts_S1536x5120_S6x256x5120)
    ((W4_of m ρ c main_v2_0 (by decide)).trans ((W3_of m ρ c main_v2_0 (by decide)).trans (W2_arr m ρ c 2)))

variable (X : Vec Ideal S6x256x5120 .bf16) (S : Vec Ideal S5120 .i8) (B : Vec Ideal S256 .i32) (C : Vec Ideal S27648x2560 .i8)
  (L : Vec Ideal S27648x5 .f32)
  (hX : m ((c.tc : Thread nD τ).loc main_arg0) = X) (hS : m ((c.tc : Thread nD τ).loc main_arg1) = S)
  (hB : m ((c.tc : Thread nD τ).loc main_arg2) = B) (hC : m ((c.tc : Thread nD τ).loc main_arg3) = C)
  (hL : m ((c.tc : Thread nD τ).loc main_arg4) = L)
  (Z : ℕ → ℕ → ℝ)
  (hZ : ∀ (b : Fin 6) (s : Fin 256) (n : Fin 5120),
    (X (ix3 b s n) * FloatOps.sitofp (F := Ideal) FTy.f32 (S (ix1 n)) : EReal) = (Z (256 * b + s) n : EReal))
  (words : ℕ → BitVec 32) (code : ℕ → ℕ → BitVec 8) (scale : ℕ → ℕ → EReal)
  (hw : ∀ i : Fin 256, B (ix1 i) = words i)
  (hc : ∀ (n : Fin 27648) (j : Fin 2560), C (ix2 n j) = code n j)
  (hs : ∀ (n : Fin 27648) (g : Fin 5), L (ix2 n g) = scale n g)

include hZ in
/-- The product of input and sign as the first call reads them. -/
theorem entry_rows (r : Fin 1536) (n : Fin 5120) :
    (shapeCast S1536x5120 X shapeCasts_S6x256x5120_S1536x5120 (ix2 r n)
      * FloatOps.sitofp (F := Ideal) FTy.f32 (shapeCast S1x5120 S shapeCasts_S5120_S1x5120 (ix2 0 n)) : EReal)
      = (Z r n : EReal) := by
  have hr := r.isLt
  have e0 : shapeCast S1536x5120 X shapeCasts_S6x256x5120_S1536x5120 (ix2 r n)
      = X (ix3 (⟨r / 256, by omega⟩ : Fin 6) (⟨r % 256, by omega⟩ : Fin 256) n) := by
    pointwise
    blk_ext
  have e1 : shapeCast S1x5120 S shapeCasts_S5120_S1x5120 (ix2 0 n) = S (ix1 n) := by
    pointwise
    blk_ext
  rw [e0, e1, hZ]
  congr 2
  show 256 * (r.val / 256) + r.val % 256 = r.val
  omega

/-- The rows of the second result split back. -/
theorem split_x (G : Vec Ideal S1536x5120 .bf16) (b : Fin 6) (s : Fin 256) (n : Fin 5120) :
    shapeCast S6x256x5120 G shapeCasts_S1536x5120_S6x256x5120 (ix3 b s n)
      = G (ix2 (⟨256 * b + s, by omega⟩ : Fin 1536) n) := by
  pointwise
  blk_ext

/-- The rows of the first result split back. -/
theorem split_y (G : Vec Ideal S1536x27648 .bf16) (b : Fin 6) (s : Fin 256) (n : Fin 27648) :
    shapeCast S6x256x27648 G shapeCasts_S1536x27648_S6x256x27648 (ix3 b s n)
      = G (ix2 (⟨256 * b + s, by omega⟩ : Fin 1536) n) := by
  pointwise
  blk_ext

include hX hS hZ in
/-- The second result of the kernel: the rotated input. -/
theorem kernel_x_rot (b : Fin 6) (s : Fin 256) (n : Fin 5120) :
    (W5 m ρ c (Proc.devRef .tc main_v6) : Vec Ideal S6x256x5120 .bf16) (ix3 b s n) = rotVal (Z (256 * b + s)) n := by
  rw [exit_v6, rot_array (V1 m ρ) c _ _ (entry_v0 m ρ c) (entry_v1 m ρ c) Z (by rw [hX, hS]; exact entry_rows X S Z hZ)]
  exact split_x _ b s n

include hX hS hB hC hL hZ hw hc hs in
/-- The first result of the kernel: each row of the rotated input, its columns de-interleaved, against
the decoded weights. -/
theorem kernel_y (b : Fin 6) (s : Fin 256) (n : Fin 27648) :
    (W5 m ρ c (Proc.devRef .tc main_v5) : Vec Ideal S6x256x27648 .bf16) (ix3 b s n)
      = ∑ k : Fin 5120, rotVal (Z (256 * b + s)) (deint k) * wdec words code scale n k := by
  have eq : V3 m ρ c main_v2_1 = (show Vec Ideal S1536x5120 .bf16 from fun i => rotVal (Z (i 0)) (deint (i 1))) :=
    (entry_xq m ρ c).trans
      (xq_array (V1 m ρ) c _ _ (entry_v0 m ρ c) (entry_v1 m ρ c) Z (by rw [hX, hS]; exact entry_rows X S Z hZ))
  have et : V3 m ρ c main_v3 = shapeCast S2x128 B shapeCasts_S256_S2x128 := by rw [entry_v3, hB]
  have hrow : ∀ (h : Fin 2) (l : Fin 128), shapeCast S2x128 B shapeCasts_S256_S2x128 (ix2 h l) = words (128 * h + l) := by
    intro h l
    have e : shapeCast S2x128 B shapeCasts_S256_S2x128 (ix2 h l) = B (ix1 (⟨128 * h + l, by omega⟩ : Fin 256)) := by
      pointwise
      blk_ext
    rw [e, hw]
  rw [exit_v5, decode_array (V3 m ρ) c _ _ C L eq et ((entry_codes m ρ c).trans hC) ((entry_scales m ρ c).trans hL)
    words code scale (fun r k => rotVal (Z r) (deint k)) (fun _ _ => rfl) (fun l => (hrow 0 l).trans (congrArg words (by simp)))
    (fun l => (hrow 1 l).trans (congrArg words (by simp))) hc hs]
  exact split_y _ b s n

end

end Cert.KernelIdeal.Value
-- ==== Proof.Reference.lean ====
module

public import proofs.«01_k».proof.Proof.Gen.ReferenceIdeal.Run
public import proofs.«01_k».proof.Proof.RotateBlock
public import Idealize.ShloMosaic.Lib.Pipeline.ValueKit

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Rot

/-- The reference's Hadamard matrix: entry `(i, k)` is one minus twice the parity of the bits `i` and `k` share. -/
def hadamard : FVec Ideal S1024x1024 .bf16 := (sitofp .bf16 (subi (broadcastInDim S1024x1024 ![] bcast_S_S1024x1024 (constantI S_ 32 1#32)) (muli (broadcastInDim S1024x1024 ![] bcast_S_S1024x1024 (constantI S_ 32 2#32)) (andi (ctpop (andi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 1#32))))))

/-- The signs, repeated along the rows. -/
def signs (S : Vec Ideal S5120 .i8) : FVec Ideal S6x256x5x1024 .bf16 := (broadcastInDim S6x256x5x1024 ![0, 1, 2, 3] bcast_S1x1x5x1024_S6x256x5x1024_0_1_2_3 (broadcastInDim S1x1x5x1024 ![2, 3] bcast_S5x1024_S1x1x5x1024_2_3 (shapeCast _ (sitofp .bf16 (extsi 32 S natLt_8_32)) shapeCasts_S5120_S5x1024)))

/-- The reference's rotated input, by groups of 1024 columns. -/
def xrot4 (X : FVec Ideal S6x256x5120 .bf16) (S : Vec Ideal S5120 .i8) : FVec Ideal S6x256x5x1024 .bf16 :=
  truncf .bf16 (mulf (Host.dotGeneral dot_S6x256x5x1024_S1024x1024_S6x256x5x1024_3_0_012_1_n_n none (mulf (shapeCast _ X shapeCasts_S6x256x5120_S6x256x5x1024) (signs S)) hadamard) (broadcastInDim S6x256x5x1024 ![] bcast_S_S6x256x5x1024 (constant S_ .f32 0x3D000000#32))) bitsLt_bf16_f32

/-- The reference's decoded weights, by groups, codes and halves. -/
def weights (B : Vec Ideal S256 .i32) (C : Vec Ideal S27648x2560 .i8) (L : FVec Ideal S27648x5 .f32) :
    FVec Ideal S27648x5x512x2 .bf16 := (mulf (shapeCast _ (Host.gather gather_S256x2_S27648x2560x1_S27648x2560x2_2_0_n_n_0_2_12 (bitcastToFloat (F := Ideal) .bf16 (Host.bitcastConvertNarrow S256x2 16 B splits_S256_w32_S256x2_w16)) (broadcastInDim S27648x2560x1 ![0, 1] bcast_S27648x2560_S27648x2560x1_0_1 (select (cmpi .slt (extui 32 C natLt_8_32) (broadcastInDim S27648x2560 ![] bcast_S_S27648x2560 (constantI S_ 32 0#32))) (addi (extui 32 C natLt_8_32) (broadcastInDim S27648x2560 ![] bcast_S_S27648x2560 (constantI S_ 32 256#32))) (extui 32 C natLt_8_32)))) shapeCasts_S27648x2560x2_S27648x5x512x2) (broadcastInDim S27648x5x512x2 ![0, 1, 2, 3] bcast_S27648x5x1x1_S27648x5x512x2_0_1_2_3 (broadcastInDim S27648x5x1x1 ![0, 1] bcast_S27648x5_S27648x5x1x1_0_1 (truncf .bf16 L bitsLt_bf16_f32))))

/-- The reference's first result. -/
def refY (X : FVec Ideal S6x256x5120 .bf16) (S : Vec Ideal S5120 .i8) (B : Vec Ideal S256 .i32) (C : Vec Ideal S27648x2560 .i8)
    (L : FVec Ideal S27648x5 .f32) : FVec Ideal S6x256x27648 .bf16 :=
  truncf .bf16 (Host.dotGeneral dot_S6x256x5x512x2_S27648x5x512x2_S6x256x27648_234_123_01_0_n_n none (shapeCast _ (xrot4 X S) shapeCasts_S6x256x5x1024_S6x256x5x512x2) (weights B C L)) bitsLt_bf16_f32

/-- The reference's second result. -/
def refX (X : FVec Ideal S6x256x5120 .bf16) (S : Vec Ideal S5120 .i8) : FVec Ideal S6x256x5120 .bf16 :=
  shapeCast _ (xrot4 X S) shapeCasts_S6x256x5x1024_S6x256x5120

/-- The reference's matrix holds the signs of the Hadamard transform. -/
theorem hadamard_at (i k : Fin 1024) : hadamard (ix2 i k) = ((had i k : ℝ) : EReal) := by
  pointwise [hadamard]
  exact sign_word i k

/-- An integer read through a wider word is the same number. -/
theorem sitofp_ext (b : BitVec 8) :
    FloatOps.sitofp (F := Ideal) FTy.bf16 (BitVec.signExtend 32 b) = FloatOps.sitofp (F := Ideal) FTy.f32 b := by
  show ((((BitVec.signExtend 32 b).toInt : ℝ)) : EReal) = (((b.toInt : ℝ)) : EReal)
  rw [BitVec.toInt_signExtend_of_le (by decide)]

/-- The rotated input at group `g`, column `k` of the group. -/
theorem xrot4_at (X : FVec Ideal S6x256x5120 .bf16) (S : Vec Ideal S5120 .i8) (Z : ℕ → ℕ → ℝ)
    (hZ : ∀ (b : Fin 6) (s : Fin 256) (n : Fin 5120),
      (X (ix3 b s n) * FloatOps.sitofp (F := Ideal) FTy.f32 (S (ix1 n)) : EReal) = (Z (256 * b + s) n : EReal))
    (b : Fin 6) (s : Fin 256) (g : Fin 5) (k : Fin 1024) (n : ℕ) (hg : n / 1024 = g) (hk : n % 1024 = k) :
    xrot4 X S (ix4 b s g k) = rotVal (Z (256 * b + s)) n := by
  pointwise [xrot4, signs]
  unfold rotVal fullSum
  rw [hg, hk]
  refine Ideal.mul_congr (Fin.sum_fin_congr fun i => ?_) rfl
  rw [sitofp_ext, hZ, hadamard_at, Nat.mul_comm 1024]

/-- A table row taken at each index: the index is read signed and clamped to the table. -/
theorem gather_at (x : FVec Ideal S256x2 .bf16) (idx : IVec S27648x2560x1 32) (n : Fin 27648) (j : Fin 2560) (p : Fin 2) :
    Host.gather gather_S256x2_S27648x2560x1_S27648x2560x2_2_0_n_n_0_2_12 x idx (ix3 n j p)
      = x (ix2 (⟨min (idx (ix3 n j 0)).toInt.toNat 255, by omega⟩ : Fin 256) p) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x2_S27648x2560x1_S27648x2560x2_2_0_n_n_0_2_12.startIndexMap
      from List.mem_singleton.mpr rfl)]
    have hsi : gather_S256x2_S27648x2560x1_S27648x2560x2_2_0_n_n_0_2_12.siIdx (ix3 n j p) ⟨List.idxOf (0 : Fin 2)
        gather_S256x2_S27648x2560x1_S27648x2560x2_2_0_n_n_0_2_12.startIndexMap,
        List.idxOf_lt_length_iff.2 (List.mem_singleton.mpr rfl)⟩ = ix3 n j 0 := by
      funext b
      refine Fin.ext ?_
      match b with
      | ⟨0, _⟩ => rfl
      | ⟨1, _⟩ => rfl
      | ⟨2, _⟩ => rfl
    rw [hsi]
    rfl
  · show GatherDims.start _ _ _ 1 + GatherDims.batchCoord _ _ 1 + GatherDims.offCoord _ _ 1 = _
    rw [GatherDims.batchCoord_eq_zero _ _ _ List.not_mem_nil]
    unfold GatherDims.start
    rw [dif_neg (show ¬ (1 : Fin 2) ∈ gather_S256x2_S27648x2560x1_S27648x2560x2_2_0_n_n_0_2_12.startIndexMap
      from fun h => absurd (List.mem_singleton.mp h) (by decide))]
    simp only [Nat.add_zero, Nat.zero_add]
    rfl

/-- The index of a table row: a code is not negative, so it is the code itself. -/
theorem code_index (b : BitVec 8) :
    min (Scalar.select (IntOp.cmpi .slt (BitVec.setWidth 32 b) 0#32) (IntOp.addi (BitVec.setWidth 32 b) 256#32)
      (BitVec.setWidth 32 b)).toInt.toNat 255 = b.toNat := by
  have key : ∀ i : Fin 256,
      min (Scalar.select (IntOp.cmpi .slt (BitVec.setWidth 32 (BitVec.ofFin (w := 8) i)) 0#32)
        (IntOp.addi (BitVec.setWidth 32 (BitVec.ofFin (w := 8) i)) 256#32)
        (BitVec.setWidth 32 (BitVec.ofFin (w := 8) i))).toInt.toNat 255 = i.val := by
    decide +kernel
  obtain ⟨i⟩ := b
  exact key i

/-- A word split into its two halves. -/
theorem narrow_at (B : Vec Ideal S256 .i32) (i : Fin 256) (p : Fin 2) :
    Host.bitcastConvertNarrow S256x2 16 B splits_S256_w32_S256x2_w16 (ix2 i p) = (B (ix1 i)).extractLsb' (p * 16) 16 := by
  unfold Host.bitcastConvertNarrow
  have e : splits_S256_w32_S256x2_w16.drop (ix2 i p) = ix1 i := by
    funext a
    match a with
    | ⟨0, _⟩ => rfl
  rw [e]
  rfl

/-- The decoded weights at output column `n`, group `g`, code `j` of the group, half `p`. -/
theorem weights_at (B : Vec Ideal S256 .i32) (C : Vec Ideal S27648x2560 .i8) (L : FVec Ideal S27648x5 .f32)
    (words : ℕ → BitVec 32) (code : ℕ → ℕ → BitVec 8) (scale : ℕ → ℕ → EReal)
    (hw : ∀ i : Fin 256, B (ix1 i) = words i)
    (hc : ∀ (n : Fin 27648) (j : Fin 2560), C (ix2 n j) = code n j)
    (hs : ∀ (n : Fin 27648) (g : Fin 5), L (ix2 n g) = scale n g)
    (n : Fin 27648) (g : Fin 5) (j : Fin 512) (p : Fin 2) :
    weights B C L (ix4 n g j p)
      = Ideal.ofBits FTy.bf16 ((words (code n (512 * g + j)).toNat).extractLsb' (p * 16) 16) * scale n g := by
  pointwise [weights]
  rw [gather_at, hs]
  pointwise
  rw [narrow_at]
  simp only [hw, hc, code_index, Nat.mul_comm 512]

/-- The contraction of the reference's product runs over groups, codes and halves. -/
def contr3 : Fin 5 × Fin 512 × Fin 2 ≃ dot_S6x256x5x512x2_S27648x5x512x2_S6x256x27648_234_123_01_0_n_n.contr.Idx where
  toFun k := fun p => match p with
    | ⟨0, _⟩ => (k.1 : Fin 5)
    | ⟨1, _⟩ => (k.2.1 : Fin 512)
    | ⟨2, _⟩ => (k.2.2 : Fin 2)
  invFun q := ((q ⟨0, by decide⟩ : Fin 5), (q ⟨1, by decide⟩ : Fin 512), (q ⟨2, by decide⟩ : Fin 2))
  left_inv _ := rfl
  right_inv q := by
    funext p
    match p with
    | ⟨0, _⟩ => rfl
    | ⟨1, _⟩ => rfl
    | ⟨2, _⟩ => rfl

/-- The reference's product at an index: the sum over groups, codes and halves. -/
theorem product_at (x : FVec Ideal S6x256x5x512x2 .bf16) (w : FVec Ideal S27648x5x512x2 .bf16)
    (b : Fin 6) (s : Fin 256) (n : Fin 27648) :
    Ideal.matmul dot_S6x256x5x512x2_S27648x5x512x2_S6x256x27648_234_123_01_0_n_n x w (fun _ => 0) (ix3 b s n)
      = ∑ g : Fin 5, ∑ j : Fin 512, ∑ p : Fin 2, (x (ix5 b s g j p) * w (ix4 n g j p) : EReal) := by
  have e : ∀ k : Fin 5 × Fin 512 × Fin 2,
      (x (ix5 b s k.1 k.2.1 k.2.2) * w (ix4 n k.1 k.2.1 k.2.2) : EReal)
        = x (dot_S6x256x5x512x2_S27648x5x512x2_S6x256x27648_234_123_01_0_n_n.lhsIdx (ix3 b s n) (contr3 k))
          * w (dot_S6x256x5x512x2_S27648x5x512x2_S6x256x27648_234_123_01_0_n_n.rhsIdx (ix3 b s n) (contr3 k)) := by
    intro k
    congr 2
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
  refine (zero_add _).trans ?_
  refine (Fintype.sum_equiv contr3 _ _ e).symm.trans ?_
  simp only [Fintype.sum_prod_type]

/-- The reference's first result at an index. -/
theorem refY_at (X : FVec Ideal S6x256x5120 .bf16) (S : Vec Ideal S5120 .i8) (Z : ℕ → ℕ → ℝ)
    (hZ : ∀ (b : Fin 6) (s : Fin 256) (n : Fin 5120),
      (X (ix3 b s n) * FloatOps.sitofp (F := Ideal) FTy.f32 (S (ix1 n)) : EReal) = (Z (256 * b + s) n : EReal))
    (B : Vec Ideal S256 .i32) (C : Vec Ideal S27648x2560 .i8) (L : FVec Ideal S27648x5 .f32)
    (words : ℕ → BitVec 32) (code : ℕ → ℕ → BitVec 8) (scale : ℕ → ℕ → EReal)
    (hw : ∀ i : Fin 256, B (ix1 i) = words i)
    (hc : ∀ (n : Fin 27648) (j : Fin 2560), C (ix2 n j) = code n j)
    (hs : ∀ (n : Fin 27648) (g : Fin 5), L (ix2 n g) = scale n g)
    (b : Fin 6) (s : Fin 256) (n : Fin 27648) :
    refY X S B C L (ix3 b s n) = ∑ g : Fin 5, ∑ j : Fin 512, ∑ p : Fin 2,
      rotVal (Z (256 * b + s)) (1024 * g + (2 * j + p))
        * (Ideal.ofBits FTy.bf16 ((words (code n (512 * g + j)).toNat).extractLsb' (p * 16) 16) * scale n g) := by
  pointwise [refY]
  rw [product_at]
  refine Fin.sum_fin_congr fun g => Fin.sum_fin_congr fun j => Fin.sum_fin_congr fun p => ?_
  rw [weights_at B C L words code scale hw hc hs]
  refine Ideal.mul_congr ?_ rfl
  pointwise
  have hg := g.isLt
  have hj := j.isLt
  have hp := p.isLt
  exact xrot4_at X S Z hZ b s _ _ _ (by first | omega | (simp; omega)) (by first | omega | (simp; omega))

/-- The reference's second result at an index. -/
theorem refX_at (X : FVec Ideal S6x256x5120 .bf16) (S : Vec Ideal S5120 .i8) (Z : ℕ → ℕ → ℝ)
    (hZ : ∀ (b : Fin 6) (s : Fin 256) (n : Fin 5120),
      (X (ix3 b s n) * FloatOps.sitofp (F := Ideal) FTy.f32 (S (ix1 n)) : EReal) = (Z (256 * b + s) n : EReal))
    (b : Fin 6) (s : Fin 256) (n : Fin 5120) :
    refX X S (ix3 b s n) = rotVal (Z (256 * b + s)) n := by
  pointwise [refX]
  exact xrot4_at X S Z hZ b s _ _ n rfl rfl

end Cert.ReferenceIdeal.Value
-- ==== Proof.Equation.lean ====
module

public import proofs.«01_k».proof.Proof.RotateBlock
public import proofs.«01_k».proof.Proof.Word

@[expose] public section

noncomputable section

open Idealize.ShloMosaic

namespace Cert.Equation

open Cert.Rot Cert.Dec

/-- The position in the kernel's contraction of group `g`, code `j` of the group, half `p`: positions
come in blocks of 256, first the low halves of 128 codes, then their high halves. -/
def place : Fin 5 × Fin 512 × Fin 2 ≃ Fin 5120 where
  toFun k := ⟨256 * (4 * k.1.val + k.2.1.val / 128) + (128 * k.2.2.val + k.2.1.val % 128), by
    have h1 := k.1.isLt
    have h2 := k.2.1.isLt
    have h3 := k.2.2.isLt
    omega⟩
  invFun q := (⟨q.val / 1024, by omega⟩, ⟨128 * (q.val / 256 % 4) + q.val % 128, by omega⟩, ⟨q.val % 256 / 128, by omega⟩)
  left_inv k := by
    obtain ⟨⟨g, hg⟩, ⟨j, hj⟩, ⟨p, hp⟩⟩ := k
    simp only [Prod.mk.injEq, Fin.mk.injEq]
    refine ⟨?_, ?_, ?_⟩ <;> omega
  right_inv q := by
    refine Fin.ext ?_
    simp only
    omega

/-- The kernel's product over de-interleaved columns is the product over groups, codes and halves. -/
theorem product_eq (r : ℕ → EReal) (words : ℕ → BitVec 32) (code : ℕ → ℕ → BitVec 8) (scale : ℕ → ℕ → EReal) (n : ℕ) :
    ∑ k : Fin 5120, r (deint k) * wdec words code scale n k
      = ∑ g : Fin 5, ∑ j : Fin 512, ∑ p : Fin 2, r (1024 * g + (2 * j + p))
          * (Ideal.ofBits FTy.bf16 ((words (code n (512 * g + j)).toNat).extractLsb' (p * 16) 16) * scale n g) := by
  rw [← Fintype.sum_equiv place (fun k : Fin 5 × Fin 512 × Fin 2 => r (1024 * k.1.val + (2 * k.2.1.val + k.2.2.val))
      * (Ideal.ofBits FTy.bf16 ((words (code n (512 * k.1.val + k.2.1.val)).toNat).extractLsb' (k.2.2.val * 16) 16)
        * scale n k.1.val)) _ ?_]
  · simp only [Fintype.sum_prod_type]
  · rintro ⟨⟨g, hg⟩, ⟨j, hj⟩, ⟨p, hp⟩⟩
    have e : (place (⟨g, hg⟩, ⟨j, hj⟩, ⟨p, hp⟩)).val = 256 * (4 * g + j / 128) + (128 * p + j % 128) := rfl
    rw [e, ← wdec_at words code scale n n _ (512 * g + j) p g rfl (by omega) (by omega) (by omega)]
    refine congrArg (fun x => r x * _) ?_
    unfold deint
    simp only
    omega

end Cert.Equation
-- ==== Proof.Finite.lean ====
module

public import proofs.«01_k».proof.Defs
public import Idealize.ShloMosaic.Lib.Pipeline.ValueKit

@[expose] public section

set_option maxRecDepth 16384

noncomputable section

open Idealize.ShloMosaic

namespace Cert.Finite

open Cert.Pre_x_finite

/-- The one side condition of the precondition's program. -/
theorem facts : Cert.Pre_x_finite.Facts := ⟨by decide⟩

/-- An extended real whose absolute value is below the infinity of the format is a real number. -/
theorem real_of_abs (x : EReal) (h : max x (-x) < ⊤) : ((x.toReal : ℝ) : EReal) = x := by
  refine EReal.coe_toReal (fun e => ?_) (fun e => ?_)
  · rw [e] at h
    exact absurd h (by simp)
  · rw [e] at h
    exact absurd h (by simp)

/-- Under the precondition every entry of the input is a real number. -/
theorem entry_real [Facts] (X : FVec Ideal S6x256x5120 .bf16) (S : IVec S5120 8) (B : IVec S256 32) (C : IVec S27648x2560 8)
    (L : FVec Ideal S27648x5 .f32) (h : fn X S B C L = fun _ => 1#1) (b : Fin 6) (s : Fin 256) (n : Fin 5120) :
    ((EReal.toReal (X (ix3 b s n)) : ℝ) : EReal) = X (ix3 b s n) := by
  have e := congrFun h (ix3 b s n)
  revert e
  pointwise [fn]
  intro e
  refine real_of_abs _ ?_
  have ht : Ideal.ofBits FTy.bf16 0x7F80#16 = ⊤ := by simp [Ideal.ofBits, Ideal.ieee]
  rw [ht] at e
  by_contra hn
  rw [show decide (FloatOps.absf (X (ix3 b s n)) < (⊤ : EReal)) = false from decide_eq_false hn] at e
  exact absurd e (by decide)

/-- Under the precondition the product of an input entry and its sign is a real number. -/
theorem rows [Facts] (X : FVec Ideal S6x256x5120 .bf16) (S : IVec S5120 8) (B : IVec S256 32) (C : IVec S27648x2560 8)
    (L : FVec Ideal S27648x5 .f32) (h : fn X S B C L = fun _ => 1#1) :
    ∃ Z : ℕ → ℕ → ℝ, ∀ (b : Fin 6) (s : Fin 256) (n : Fin 5120),
      (X (ix3 b s n) * FloatOps.sitofp (F := Ideal) FTy.f32 (S (ix1 n)) : EReal) = (Z (256 * b + s) n : EReal) := by
  refine ⟨fun r n => if hr : r < 1536 ∧ n < 5120 then
    EReal.toReal (X (ix3 (⟨r / 256, by omega⟩ : Fin 6) (⟨r % 256, by omega⟩ : Fin 256) (⟨n, hr.2⟩ : Fin 5120)))
      * ((S (ix1 (⟨n, hr.2⟩ : Fin 5120))).toInt : ℝ) else 0, fun b s n => ?_⟩
  have hr : 256 * b.val + s.val < 1536 ∧ n.val < 5120 := ⟨by omega, n.isLt⟩
  refine Eq.trans ?_ (congrArg (fun x : ℝ => (x : EReal)) (dif_pos hr).symm)
  have e0 : (⟨(256 * b.val + s.val) / 256, by omega⟩ : Fin 6) = b := Fin.ext (by show (256 * b.val + s.val) / 256 = b.val; omega)
  have e1 : (⟨(256 * b.val + s.val) % 256, by omega⟩ : Fin 256) = s := Fin.ext (by show (256 * b.val + s.val) % 256 = s.val; omega)
  rw [e0, e1, EReal.coe_mul, entry_real X S B C L h]
  rfl

end Cert.Finite
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Results
public import proofs.«01_k».proof.Proof.Reference
public import proofs.«01_k».proof.Proof.Equation
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, leaves its arguments unchanged and every counter at zero. -/
theorem frame_ReferenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run m g)

/-- What the reference computes from the arguments is what the kernel leaves in its results. -/
theorem results_eq [Cert.Pre_x_finite.Facts] (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    (X : FVec Ideal Cert.KernelIdeal.S6x256x5120 .bf16) (S : IVec Cert.KernelIdeal.S5120 8) (B : IVec Cert.KernelIdeal.S256 32)
    (C : IVec Cert.KernelIdeal.S27648x2560 8) (L : FVec Ideal Cert.KernelIdeal.S27648x5 .f32)
    (hX : m ((c.tc : Thread Cert.KernelIdeal.nD Cert.KernelIdeal.τ).loc Cert.KernelIdeal.main_arg0) = X)
    (hS : m ((c.tc : Thread Cert.KernelIdeal.nD Cert.KernelIdeal.τ).loc Cert.KernelIdeal.main_arg1) = S)
    (hB : m ((c.tc : Thread Cert.KernelIdeal.nD Cert.KernelIdeal.τ).loc Cert.KernelIdeal.main_arg2) = B)
    (hC : m ((c.tc : Thread Cert.KernelIdeal.nD Cert.KernelIdeal.τ).loc Cert.KernelIdeal.main_arg3) = C)
    (hL : m ((c.tc : Thread Cert.KernelIdeal.nD Cert.KernelIdeal.τ).loc Cert.KernelIdeal.main_arg4) = L)
    (hpre : Cert.Pre_x_finite.fn X S B C L = fun _ => 1#1) :
    Cert.ReferenceIdeal.Value.refY X S B C L
        = Cert.KernelIdeal.Gen.W5 m g c (Proc.devRef .tc Cert.KernelIdeal.main_v5)
      ∧ Cert.ReferenceIdeal.Value.refX X S
        = Cert.KernelIdeal.Gen.W5 m g c (Proc.devRef .tc Cert.KernelIdeal.main_v6) := by
  obtain ⟨Z, hZ⟩ := Cert.Finite.rows X S B C L hpre
  obtain ⟨words, hw⟩ : ∃ words : ℕ → BitVec 32, ∀ i : Fin 256, B (ix1 i) = words i :=
    ⟨fun i => if h : i < 256 then B (ix1 (⟨i, h⟩ : Fin 256)) else 0#32, fun i => by simp only [i.isLt, dite_true]⟩
  obtain ⟨code, hc⟩ : ∃ code : ℕ → ℕ → BitVec 8, ∀ (n : Fin 27648) (j : Fin 2560), C (ix2 n j) = code n j :=
    ⟨fun n j => if h : n < 27648 ∧ j < 2560 then C (ix2 (⟨n, h.1⟩ : Fin 27648) (⟨j, h.2⟩ : Fin 2560)) else 0#8,
      fun n j => by simp only [n.isLt, j.isLt, and_self, dite_true]⟩
  obtain ⟨scale, hs⟩ : ∃ scale : ℕ → ℕ → EReal, ∀ (n : Fin 27648) (k : Fin 5), L (ix2 n k) = scale n k :=
    ⟨fun n k => if h : n < 27648 ∧ k < 5 then (L (ix2 (⟨n, h.1⟩ : Fin 27648) (⟨k, h.2⟩ : Fin 5)) : EReal) else 0,
      fun n k => by simp only [n.isLt, k.isLt, and_self, dite_true]⟩
  constructor
  · funext i
    have key : ∀ i : Cert.KernelIdeal.S6x256x27648.Idx, Cert.ReferenceIdeal.Value.refY X S B C L i
        = (Cert.KernelIdeal.Gen.W5 m g c (Proc.devRef .tc Cert.KernelIdeal.main_v5) : Vec Ideal Cert.KernelIdeal.S6x256x27648 .bf16) i := by
      intro i
      idx_vars i
      exact (Cert.ReferenceIdeal.Value.refY_at X S Z hZ B C L words code scale hw hc hs i0 i1 i2).trans
        ((Cert.Equation.product_eq _ _ _ _ _).symm.trans
          (Cert.KernelIdeal.Value.kernel_y m g c X S B C L hX hS hB hC hL Z hZ words code scale hw hc hs i0 i1 i2).symm)
    exact key i
  · funext i
    have key : ∀ i : Cert.KernelIdeal.S6x256x5120.Idx, Cert.ReferenceIdeal.Value.refX X S i
        = (Cert.KernelIdeal.Gen.W5 m g c (Proc.devRef .tc Cert.KernelIdeal.main_v6) : Vec Ideal Cert.KernelIdeal.S6x256x5120 .bf16) i := by
      intro i
      idx_vars i
      exact (Cert.ReferenceIdeal.Value.refX_at X S Z hZ i0 i1 i2).trans
        (Cert.KernelIdeal.Value.kernel_x_rot m g c X S hX hS Z hZ i0 i1 i2).symm
    exact key i

/-- From memories that agree on the arguments and hold a finite input, kernel and reference end with equal results. -/
theorem algebraic (hP : Cert.Pre_x_finite.Facts) : Cert.algebraic_KernelIdeal_ReferenceIdeal_pre_x_finite
    (hKernelIdeal := Cert.KernelIdeal.Gen.facts) (hReferenceIdeal := Cert.ReferenceIdeal.Gen.facts) (hPre_x_finite := hP) := by
  intro m g m' g' hpre hagree
  refine ⟨fun c => Cert.KernelIdeal.Gen.W5 m g c (Proc.devRef .tc Cert.KernelIdeal.main_v5),
    fun c => Cert.KernelIdeal.Gen.W5 m g c (Proc.devRef .tc Cert.KernelIdeal.main_v6), ?_, ?_⟩
  · exact (θ_run _ _ _).mono (fun _ h => h.1) (Cert.KernelIdeal.Value.run m g)
  · refine (θ_run _ _ _).mono (fun r h c => ?_) (Cert.ReferenceIdeal.Value.run m' g')
    obtain ⟨h0, h1, h2, h3, h4⟩ := hagree c
    have e := results_eq m g c _ _ _ _ _ rfl rfl rfl rfl rfl (hpre c)
    refine ⟨(h c).1.trans ?_, (h c).2.1.trans ?_, (h c).2.2⟩
    · rw [h0, h1, h2, h3, h4]
      exact e.1
    · rw [h0, h1]
      exact e.2

/-- The frames of kernel and reference, that reading the kernel over extended reals rewrites none of its
    operations, and that kernel and reference have equal results on finite inputs. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => frame_ReferenceIdeal m g,
    fun m g _ => frame_ReferenceIdeal m g,
    trivial,
    algebraic Cert.Finite.facts⟩

end Cert.Proof

end
